-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S10000x256 : Shape := ⟨2, ![10000, 256]⟩
abbrev S2x160000 : Shape := ⟨2, ![2, 160000]⟩
abbrev S160000 : Shape := ⟨1, ![160000]⟩
abbrev S1024 : Shape := ⟨1, ![1024]⟩
abbrev S4x256x256 : Shape := ⟨3, ![4, 256, 256]⟩
abbrev S256x256 : Shape := ⟨2, ![256, 256]⟩
abbrev S256 : Shape := ⟨1, ![256]⟩
abbrev S512x512 : Shape := ⟨2, ![512, 512]⟩
abbrev S512 : Shape := ⟨1, ![512]⟩
abbrev S_ : Shape := ⟨0, ![]⟩
abbrev S1x160000 : Shape := ⟨2, ![1, 160000]⟩

class Facts : Prop where
  bcast_S_S160000 : S_.BroadcastsInDim S160000 (![] : Fin 0 → Fin S160000.rank)
  reducesTo_S160000_S_d0 : S160000.ReducesTo [0] S_
  h_S_ : 0 < S_.numel
  slices_S2x160000_S1x160000_0_0 : S2x160000.Slices ![0, 0] S1x160000
  shapeCasts_S1x160000_S160000 : S1x160000.ShapeCasts S160000

variable [Facts]

def fn {F : FTy → Type} [FloatOps F] (main_arg0 : FVec F S10000x256 .f32) (main_arg1 : IVec S2x160000 32) (main_arg2 : IVec S160000 32) (main_arg3 : IVec S1024 32) (main_arg4 : IVec S1024 32) (main_arg5 : FVec F S4x256x256 .f32) (main_arg6 : FVec F S256x256 .f32) (main_arg7 : FVec F S256 .f32) (main_arg8 : FVec F S512x512 .f32) (main_arg9 : FVec F S512 .f32) : IVec S_ 1 :=
  let main_c : IVec S_ 32 := constantI S_ 32 0#32
  let main_v0 : IVec S160000 32 := broadcastInDim S160000 ![] bcast_S_S160000 main_c
  let main_v1 : IVec S160000 1 := cmpi .sge main_arg2 main_v0
  let main_c_0 : IVec S_ 32 := constantI S_ 32 4#32
  let main_v2 : IVec S160000 32 := broadcastInDim S160000 ![] bcast_S_S160000 main_c_0
  let main_v3 : IVec S160000 1 := cmpi .slt main_arg2 main_v2
  let main_v4 : IVec S160000 1 := andi main_v1 main_v3
  let main_c_1 : IVec S_ 1 := constantI S_ 1 1#1
  let main_v5 : IVec S_ 1 := (fun x v => Host.reduce IntOp.andi x v reducesTo_S160000_S_d0 h_S_) main_v4 main_c_1
  let main_v6 : IVec S1x160000 32 := (extractStridedSlice S1x160000 ![0, 0] · slices_S2x160000_S1x160000_0_0) main_arg1
  let main_v7 : IVec S160000 32 := shapeCast S160000 main_v6 shapeCasts_S1x160000_S160000
  let main_c_2 : IVec S_ 32 := constantI S_ 32 0#32
  let main_v8 : IVec S160000 32 := broadcastInDim S160000 ![] bcast_S_S160000 main_c_2
  let main_v9 : IVec S160000 1 := cmpi .sge main_v7 main_v8
  let main_v10 : IVec S1x160000 32 := (extractStridedSlice S1x160000 ![0, 0] · slices_S2x160000_S1x160000_0_0) main_arg1
  let main_v11 : IVec S160000 32 := shapeCast S160000 main_v10 shapeCasts_S1x160000_S160000
  let main_c_3 : IVec S_ 32 := constantI S_ 32 10000#32
  let main_v12 : IVec S160000 32 := broadcastInDim S160000 ![] bcast_S_S160000 main_c_3
  let main_v13 : IVec S160000 1 := cmpi .slt main_v11 main_v12
  let main_v14 : IVec S160000 1 := andi main_v9 main_v13
  let main_c_4 : IVec S_ 1 := constantI S_ 1 1#1
  let main_v15 : IVec S_ 1 := (fun x v => Host.reduce IntOp.andi x v reducesTo_S160000_S_d0 h_S_) main_v14 main_c_4
  let main_v16 : IVec S_ 1 := andi main_v5 main_v15
  main_v16
-- ==== Kernel.lean ====
abbrev S10000x256 : Shape := ⟨2, ![10000, 256]⟩
abbrev S2x160000 : Shape := ⟨2, ![2, 160000]⟩
abbrev S160000 : Shape := ⟨1, ![160000]⟩
abbrev S1024 : Shape := ⟨1, ![1024]⟩
abbrev S4x256x256 : Shape := ⟨3, ![4, 256, 256]⟩
abbrev S256x256 : Shape := ⟨2, ![256, 256]⟩
abbrev S256 : Shape := ⟨1, ![256]⟩
abbrev S512x512 : Shape := ⟨2, ![512, 512]⟩
abbrev S512 : Shape := ⟨1, ![512]⟩
abbrev S1x160000 : Shape := ⟨2, ![1, 160000]⟩
abbrev S_ : Shape := ⟨0, ![]⟩
abbrev S2x40000x128 : Shape := ⟨3, ![2, 40000, 128]⟩
abbrev S2000x256 : Shape := ⟨2, ![2000, 256]⟩
abbrev S1x256x128 : Shape := ⟨3, ![1, 256, 128]⟩
abbrev S1x2000x128 : Shape := ⟨3, ![1, 2000, 128]⟩
abbrev S256x128 : Shape := ⟨2, ![256, 128]⟩
abbrev S2000x128 : Shape := ⟨2, ![2000, 128]⟩
abbrev S40000 : Shape := ⟨1, ![40000]⟩
abbrev S160000x1 : Shape := ⟨2, ![160000, 1]⟩
abbrev S1x40000x128 : Shape := ⟨3, ![1, 40000, 128]⟩
abbrev S40000x128 : Shape := ⟨2, ![40000, 128]⟩
abbrev S160000x128 : Shape := ⟨2, ![160000, 128]⟩
abbrev S160000x256 : Shape := ⟨2, ![160000, 256]⟩
abbrev S1x256 : Shape := ⟨2, ![1, 256]⟩
abbrev S1024x1 : Shape := ⟨2, ![1024, 1]⟩
abbrev S1024x256 : Shape := ⟨2, ![1024, 256]⟩
abbrev S1x512 : Shape := ⟨2, ![1, 512]⟩
abbrev S1024x512 : Shape := ⟨2, ![1024, 512]⟩
abbrev S256x512 : Shape := ⟨2, ![256, 512]⟩

abbrev nBuf : Space → Nat
  | .hbm => 110
  | .vmem => 19
  | .smem => 0
  | _ => 0

abbrev bufTy : (tb : Table) → Fin (tcTables nBuf tb) → BufTy
  | .hbm, ⟨0, _⟩ => ⟨S10000x256, .f32⟩
  | .hbm, ⟨1, _⟩ => ⟨S2x160000, .i32⟩
  | .hbm, ⟨2, _⟩ => ⟨S160000, .i32⟩
  | .hbm, ⟨3, _⟩ => ⟨S1024, .i32⟩
  | .hbm, ⟨4, _⟩ => ⟨S1024, .i32⟩
  | .hbm, ⟨5, _⟩ => ⟨S4x256x256, .f32⟩
  | .hbm, ⟨6, _⟩ => ⟨S256x256, .f32⟩
  | .hbm, ⟨7, _⟩ => ⟨S256, .f32⟩
  | .hbm, ⟨8, _⟩ => ⟨S512x512, .f32⟩
  | .hbm, ⟨9, _⟩ => ⟨S512, .f32⟩
  | .hbm, ⟨10, _⟩ => ⟨S1x160000, .i32⟩
  | .hbm, ⟨11, _⟩ => ⟨S160000, .i32⟩
  | .hbm, ⟨12, _⟩ => ⟨S1x160000, .i32⟩
  | .hbm, ⟨13, _⟩ => ⟨S160000, .i32⟩
  | .hbm, ⟨14, _⟩ => ⟨S_, .i32⟩
  | .hbm, ⟨15, _⟩ => ⟨S160000, .i32⟩
  | .hbm, ⟨16, _⟩ => ⟨S160000, .i32⟩
  | .hbm, ⟨17, _⟩ => ⟨S160000, .i32⟩
  | .hbm, ⟨18, _⟩ => ⟨S_, .i32⟩
  | .hbm, ⟨19, _⟩ => ⟨S160000, .i32⟩
  | .hbm, ⟨20, _⟩ => ⟨S160000, .i32⟩
  | .hbm, ⟨21, _⟩ => ⟨S160000, .i32⟩
  | .hbm, ⟨22, _⟩ => ⟨S2x40000x128, .f32⟩
  | .hbm, ⟨23, _⟩ => ⟨S_, .f32⟩
  | .hbm, ⟨24, _⟩ => ⟨S40000, .f32⟩
  | .hbm, ⟨25, _⟩ => ⟨S_, .i32⟩
  | .hbm, ⟨26, _⟩ => ⟨S160000, .i32⟩
  | .hbm, ⟨27, _⟩ => ⟨S160000, .i1⟩
  | .hbm, ⟨28, _⟩ => ⟨S_, .i32⟩
  | .hbm, ⟨29, _⟩ => ⟨S160000, .i32⟩
  | .hbm, ⟨30, _⟩ => ⟨S160000, .i32⟩
  | .hbm, ⟨31, _⟩ => ⟨S160000, .i32⟩
  | .hbm, ⟨32, _⟩ => ⟨S160000x1, .i32⟩
  | .hbm, ⟨33, _⟩ => ⟨S_, .f32⟩
  | .hbm, ⟨34, _⟩ => ⟨S160000, .f32⟩
  | .hbm, ⟨35, _⟩ => ⟨S40000, .f32⟩
  | .hbm, ⟨36, _⟩ => ⟨S_, .f32⟩
  | .hbm, ⟨37, _⟩ => ⟨S40000, .f32⟩
  | .hbm, ⟨38, _⟩ => ⟨S40000, .f32⟩
  | .hbm, ⟨39, _⟩ => ⟨S_, .f32⟩
  | .hbm, ⟨40, _⟩ => ⟨S40000, .f32⟩
  | .hbm, ⟨41, _⟩ => ⟨S40000, .f32⟩
  | .hbm, ⟨42, _⟩ => ⟨S1x40000x128, .f32⟩
  | .hbm, ⟨43, _⟩ => ⟨S40000x128, .f32⟩
  | .hbm, ⟨44, _⟩ => ⟨S_, .i32⟩
  | .hbm, ⟨45, _⟩ => ⟨S160000, .i32⟩
  | .hbm, ⟨46, _⟩ => ⟨S160000, .i1⟩
  | .hbm, ⟨47, _⟩ => ⟨S_, .i32⟩
  | .hbm, ⟨48, _⟩ => ⟨S160000, .i32⟩
  | .hbm, ⟨49, _⟩ => ⟨S160000, .i32⟩
  | .hbm, ⟨50, _⟩ => ⟨S160000, .i32⟩
  | .hbm, ⟨51, _⟩ => ⟨S160000x1, .i32⟩
  | .hbm, ⟨52, _⟩ => ⟨S160000x128, .f32⟩
  | .hbm, ⟨53, _⟩ => ⟨S1x40000x128, .f32⟩
  | .hbm, ⟨54, _⟩ => ⟨S40000x128, .f32⟩
  | .hbm, ⟨55, _⟩ => ⟨S_, .i32⟩
  | .hbm, ⟨56, _⟩ => ⟨S160000, .i32⟩
  | .hbm, ⟨57, _⟩ => ⟨S160000, .i1⟩
  | .hbm, ⟨58, _⟩ => ⟨S_, .i32⟩
  | .hbm, ⟨59, _⟩ => ⟨S160000, .i32⟩
  | .hbm, ⟨60, _⟩ => ⟨S160000, .i32⟩
  | .hbm, ⟨61, _⟩ => ⟨S160000, .i32⟩
  | .hbm, ⟨62, _⟩ => ⟨S160000x1, .i32⟩
  | .hbm, ⟨63, _⟩ => ⟨S160000x128, .f32⟩
  | .hbm, ⟨64, _⟩ => ⟨S160000x256, .f32⟩
  | .hbm, ⟨65, _⟩ => ⟨S_, .f32⟩
  | .hbm, ⟨66, _⟩ => ⟨S10000x256, .f32⟩
  | .hbm, ⟨67, _⟩ => ⟨S_, .i32⟩
  | .hbm, ⟨68, _⟩ => ⟨S160000, .i32⟩
  | .hbm, ⟨69, _⟩ => ⟨S160000, .i1⟩
  | .hbm, ⟨70, _⟩ => ⟨S_, .i32⟩
  | .hbm, ⟨71, _⟩ => ⟨S160000, .i32⟩
  | .hbm, ⟨72, _⟩ => ⟨S160000, .i32⟩
  | .hbm, ⟨73, _⟩ => ⟨S160000, .i32⟩
  | .hbm, ⟨74, _⟩ => ⟨S160000x1, .i32⟩
  | .hbm, ⟨75, _⟩ => ⟨S160000, .f32⟩
  | .hbm, ⟨76, _⟩ => ⟨S160000x1, .f32⟩
  | .hbm, ⟨77, _⟩ => ⟨S160000x256, .f32⟩
  | .hbm, ⟨78, _⟩ => ⟨S160000x256, .f32⟩
  | .hbm, ⟨79, _⟩ => ⟨S_, .i32⟩
  | .hbm, ⟨80, _⟩ => ⟨S160000, .i32⟩
  | .hbm, ⟨81, _⟩ => ⟨S160000, .i1⟩
  | .hbm, ⟨82, _⟩ => ⟨S_, .i32⟩
  | .hbm, ⟨83, _⟩ => ⟨S160000, .i32⟩
  | .hbm, ⟨84, _⟩ => ⟨S160000, .i32⟩
  | .hbm, ⟨85, _⟩ => ⟨S160000, .i32⟩
  | .hbm, ⟨86, _⟩ => ⟨S160000x1, .i32⟩
  | .hbm, ⟨87, _⟩ => ⟨S10000x256, .f32⟩
  | .hbm, ⟨88, _⟩ => ⟨S1x256, .f32⟩
  | .hbm, ⟨89, _⟩ => ⟨S10000x256, .f32⟩
  | .hbm, ⟨90, _⟩ => ⟨S_, .i32⟩
  | .hbm, ⟨91, _⟩ => ⟨S1024, .i32⟩
  | .hbm, ⟨92, _⟩ => ⟨S1024, .i1⟩
  | .hbm, ⟨93, _⟩ => ⟨S_, .i32⟩
  | .hbm, ⟨94, _⟩ => ⟨S1024, .i32⟩
  | .hbm, ⟨95, _⟩ => ⟨S1024, .i32⟩
  | .hbm, ⟨96, _⟩ => ⟨S1024, .i32⟩
  | .hbm, ⟨97, _⟩ => ⟨S1024x1, .i32⟩
  | .hbm, ⟨98, _⟩ => ⟨S1024x256, .f32⟩
  | .hbm, ⟨99, _⟩ => ⟨S_, .i32⟩
  | .hbm, ⟨100, _⟩ => ⟨S1024, .i32⟩
  | .hbm, ⟨101, _⟩ => ⟨S1024, .i1⟩
  | .hbm, ⟨102, _⟩ => ⟨S_, .i32⟩
  | .hbm, ⟨103, _⟩ => ⟨S1024, .i32⟩
  | .hbm, ⟨104, _⟩ => ⟨S1024, .i32⟩
  | .hbm, ⟨105, _⟩ => ⟨S1024, .i32⟩
  | .hbm, ⟨106, _⟩ => ⟨S1024x1, .i32⟩
  | .hbm, ⟨107, _⟩ => ⟨S1024x256, .f32⟩
  | .hbm, ⟨108, _⟩ => ⟨S1x512, .f32⟩
  | .hbm, ⟨109, _⟩ => ⟨S1024x512, .f32⟩
  | .local _ .vmem, ⟨0, _⟩ => ⟨S2000x256, .f32⟩
  | .local _ .vmem, ⟨1, _⟩ => ⟨S2000x256, .f32⟩
  | .local _ .vmem, ⟨2, _⟩ => ⟨S1x256x128, .f32⟩
  | .local _ .vmem, ⟨3, _⟩ => ⟨S1x256x128, .f32⟩
  | .local _ .vmem, ⟨4, _⟩ => ⟨S1x2000x128, .f32⟩
  | .local _ .vmem, ⟨5, _⟩ => ⟨S1x2000x128, .f32⟩
  | .local _ .vmem, ⟨6, _⟩ => ⟨S2000x256, .f32⟩
  | .local _ .vmem, ⟨7, _⟩ => ⟨S2000x256, .f32⟩
  | .local _ .vmem, ⟨8, _⟩ => ⟨S256x256, .f32⟩
  | .local _ .vmem, ⟨9, _⟩ => ⟨S1x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S1024x256, .f32⟩
  | .local _ .vmem, ⟨15, _⟩ => ⟨S1024x256, .f32⟩
  | .local _ .vmem, ⟨16, _⟩ => ⟨S512x512, .f32⟩
  | .local _ .vmem, ⟨17, _⟩ => ⟨S1x512, .f32⟩
  | .local _ .vmem, ⟨18, _⟩ => ⟨S1024x512, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_c_1 : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_cst_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_c_7 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_c_9 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_10 : Ref sig .tc := ⟨.hbm, 65, rfl⟩
abbrev main_v43 : Ref sig .tc := ⟨.hbm, 66, rfl⟩
abbrev main_c_11 : Ref sig .tc := ⟨.hbm, 67, rfl⟩
abbrev main_v44 : Ref sig .tc := ⟨.hbm, 68, rfl⟩
abbrev main_v45 : Ref sig .tc := ⟨.hbm, 69, rfl⟩
abbrev main_c_12 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_c_13 : Ref sig .tc := ⟨.hbm, 79, rfl⟩
abbrev main_v54 : Ref sig .tc := ⟨.hbm, 80, rfl⟩
abbrev main_v55 : Ref sig .tc := ⟨.hbm, 81, rfl⟩
abbrev main_c_14 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_c_15 : Ref sig .tc := ⟨.hbm, 90, rfl⟩
abbrev main_v63 : Ref sig .tc := ⟨.hbm, 91, rfl⟩
abbrev main_v64 : Ref sig .tc := ⟨.hbm, 92, rfl⟩
abbrev main_c_16 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_17 : Ref sig .tc := ⟨.hbm, 99, rfl⟩
abbrev main_v70 : Ref sig .tc := ⟨.hbm, 100, rfl⟩
abbrev main_v71 : Ref sig .tc := ⟨.hbm, 101, rfl⟩
abbrev main_c_18 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc2_sem0_0 : DmaSem sig := 14
abbrev cc2_sem1_0 : DmaSem sig := 15
abbrev cc2_sem2_0 : DmaSem sig := 16
abbrev cc2_sem3_0 : DmaSem sig := 17
abbrev cc2_sem4_0 : DmaSem sig := 18

abbrev nD : Nat := 1
abbrev τ : Topo := Topo.v7x

variable {F : FTy → Type} [FloatOps F]

abbrev grid0 : Pipeline.Grid := ⟨3, ![2, 4, 5], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.muli arg1 c5_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1024x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1024x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S512x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1024x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]
-- ==== ReferenceIdeal.lean ====
abbrev S10000x256 : Shape := ⟨2, ![10000, 256]⟩
abbrev S2x160000 : Shape := ⟨2, ![2, 160000]⟩
abbrev S160000 : Shape := ⟨1, ![160000]⟩
abbrev S1024 : Shape := ⟨1, ![1024]⟩
abbrev S4x256x256 : Shape := ⟨3, ![4, 256, 256]⟩
abbrev S256x256 : Shape := ⟨2, ![256, 256]⟩
abbrev S256 : Shape := ⟨1, ![256]⟩
abbrev S512x512 : Shape := ⟨2, ![512, 512]⟩
abbrev S512 : Shape := ⟨1, ![512]⟩
abbrev S1x160000 : Shape := ⟨2, ![1, 160000]⟩
abbrev S4x256x10000 : Shape := ⟨3, ![4, 256, 10000]⟩
abbrev S4x10000x256 : Shape := ⟨3, ![4, 10000, 256]⟩
abbrev S_ : Shape := ⟨0, ![]⟩
abbrev S160000x1 : Shape := ⟨2, ![160000, 1]⟩
abbrev S160000x2 : Shape := ⟨2, ![160000, 2]⟩
abbrev S160000x256 : Shape := ⟨2, ![160000, 256]⟩
abbrev S40000 : Shape := ⟨1, ![40000]⟩
abbrev S1x256 : Shape := ⟨2, ![1, 256]⟩
abbrev S1024x1 : Shape := ⟨2, ![1024, 1]⟩
abbrev S1024x256 : Shape := ⟨2, ![1024, 256]⟩
abbrev S1024x512 : Shape := ⟨2, ![1024, 512]⟩
abbrev S1x512 : Shape := ⟨2, ![1, 512]⟩

abbrev nBuf : Space → Nat
  | .hbm => 112
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S2x160000, .i32⟩
  | .hbm, ⟨2, _⟩ => ⟨S160000, .i32⟩
  | .hbm, ⟨3, _⟩ => ⟨S1024, .i32⟩
  | .hbm, ⟨4, _⟩ => ⟨S1024, .i32⟩
  | .hbm, ⟨5, _⟩ => ⟨S4x256x256, .f32⟩
  | .hbm, ⟨6, _⟩ => ⟨S256x256, .f32⟩
  | .hbm, ⟨7, _⟩ => ⟨S256, .f32⟩
  | .hbm, ⟨8, _⟩ => ⟨S512x512, .f32⟩
  | .hbm, ⟨9, _⟩ => ⟨S512, .f32⟩
  | .hbm, ⟨10, _⟩ => ⟨S1x160000, .i32⟩
  | .hbm, ⟨11, _⟩ => ⟨S160000, .i32⟩
  | .hbm, ⟨12, _⟩ => ⟨S1x160000, .i32⟩
  | .hbm, ⟨13, _⟩ => ⟨S160000, .i32⟩
  | .hbm, ⟨14, _⟩ => ⟨S4x256x10000, .f32⟩
  | .hbm, ⟨15, _⟩ => ⟨S4x10000x256, .f32⟩
  | .hbm, ⟨16, _⟩ => ⟨S_, .i32⟩
  | .hbm, ⟨17, _⟩ => ⟨S160000, .i32⟩
  | .hbm, ⟨18, _⟩ => ⟨S160000, .i1⟩
  | .hbm, ⟨19, _⟩ => ⟨S_, .i32⟩
  | .hbm, ⟨20, _⟩ => ⟨S160000, .i32⟩
  | .hbm, ⟨21, _⟩ => ⟨S160000, .i32⟩
  | .hbm, ⟨22, _⟩ => ⟨S160000, .i32⟩
  | .hbm, ⟨23, _⟩ => ⟨S_, .i32⟩
  | .hbm, ⟨24, _⟩ => ⟨S160000, .i32⟩
  | .hbm, ⟨25, _⟩ => ⟨S160000, .i1⟩
  | .hbm, ⟨26, _⟩ => ⟨S_, .i32⟩
  | .hbm, ⟨27, _⟩ => ⟨S160000, .i32⟩
  | .hbm, ⟨28, _⟩ => ⟨S160000, .i32⟩
  | .hbm, ⟨29, _⟩ => ⟨S160000, .i32⟩
  | .hbm, ⟨30, _⟩ => ⟨S160000x1, .i32⟩
  | .hbm, ⟨31, _⟩ => ⟨S160000x1, .i32⟩
  | .hbm, ⟨32, _⟩ => ⟨S160000x2, .i32⟩
  | .hbm, ⟨33, _⟩ => ⟨S160000x256, .f32⟩
  | .hbm, ⟨34, _⟩ => ⟨S_, .i32⟩
  | .hbm, ⟨35, _⟩ => ⟨S160000, .i32⟩
  | .hbm, ⟨36, _⟩ => ⟨S160000, .i32⟩
  | .hbm, ⟨37, _⟩ => ⟨S160000, .i32⟩
  | .hbm, ⟨38, _⟩ => ⟨S_, .f32⟩
  | .hbm, ⟨39, _⟩ => ⟨S40000, .f32⟩
  | .hbm, ⟨40, _⟩ => ⟨S_, .i32⟩
  | .hbm, ⟨41, _⟩ => ⟨S160000, .i32⟩
  | .hbm, ⟨42, _⟩ => ⟨S160000, .i1⟩
  | .hbm, ⟨43, _⟩ => ⟨S_, .i32⟩
  | .hbm, ⟨44, _⟩ => ⟨S160000, .i32⟩
  | .hbm, ⟨45, _⟩ => ⟨S160000, .i32⟩
  | .hbm, ⟨46, _⟩ => ⟨S160000, .i32⟩
  | .hbm, ⟨47, _⟩ => ⟨S160000x1, .i32⟩
  | .hbm, ⟨48, _⟩ => ⟨S_, .f32⟩
  | .hbm, ⟨49, _⟩ => ⟨S160000, .f32⟩
  | .hbm, ⟨50, _⟩ => ⟨S40000, .f32⟩
  | .hbm, ⟨51, _⟩ => ⟨S_, .i32⟩
  | .hbm, ⟨52, _⟩ => ⟨S160000, .i32⟩
  | .hbm, ⟨53, _⟩ => ⟨S160000, .i1⟩
  | .hbm, ⟨54, _⟩ => ⟨S_, .i32⟩
  | .hbm, ⟨55, _⟩ => ⟨S160000, .i32⟩
  | .hbm, ⟨56, _⟩ => ⟨S160000, .i32⟩
  | .hbm, ⟨57, _⟩ => ⟨S160000, .i32⟩
  | .hbm, ⟨58, _⟩ => ⟨S160000x1, .i32⟩
  | .hbm, ⟨59, _⟩ => ⟨S160000, .f32⟩
  | .hbm, ⟨60, _⟩ => ⟨S_, .f32⟩
  | .hbm, ⟨61, _⟩ => ⟨S160000, .f32⟩
  | .hbm, ⟨62, _⟩ => ⟨S160000, .f32⟩
  | .hbm, ⟨63, _⟩ => ⟨S_, .f32⟩
  | .hbm, ⟨64, _⟩ => ⟨S160000, .f32⟩
  | .hbm, ⟨65, _⟩ => ⟨S160000, .f32⟩
  | .hbm, ⟨66, _⟩ => ⟨S_, .f32⟩
  | .hbm, ⟨67, _⟩ => ⟨S10000x256, .f32⟩
  | .hbm, ⟨68, _⟩ => ⟨S160000x1, .f32⟩
  | .hbm, ⟨69, _⟩ => ⟨S160000x256, .f32⟩
  | .hbm, ⟨70, _⟩ => ⟨S160000x256, .f32⟩
  | .hbm, ⟨71, _⟩ => ⟨S_, .i32⟩
  | .hbm, ⟨72, _⟩ => ⟨S160000, .i32⟩
  | .hbm, ⟨73, _⟩ => ⟨S160000, .i1⟩
  | .hbm, ⟨74, _⟩ => ⟨S_, .i32⟩
  | .hbm, ⟨75, _⟩ => ⟨S160000, .i32⟩
  | .hbm, ⟨76, _⟩ => ⟨S160000, .i32⟩
  | .hbm, ⟨77, _⟩ => ⟨S160000, .i32⟩
  | .hbm, ⟨78, _⟩ => ⟨S160000x1, .i32⟩
  | .hbm, ⟨79, _⟩ => ⟨S10000x256, .f32⟩
  | .hbm, ⟨80, _⟩ => ⟨S10000x256, .f32⟩
  | .hbm, ⟨81, _⟩ => ⟨S10000x256, .f32⟩
  | .hbm, ⟨82, _⟩ => ⟨S1x256, .f32⟩
  | .hbm, ⟨83, _⟩ => ⟨S10000x256, .f32⟩
  | .hbm, ⟨84, _⟩ => ⟨S10000x256, .f32⟩
  | .hbm, ⟨85, _⟩ => ⟨S_, .f32⟩
  | .hbm, ⟨86, _⟩ => ⟨S10000x256, .f32⟩
  | .hbm, ⟨87, _⟩ => ⟨S10000x256, .f32⟩
  | .hbm, ⟨88, _⟩ => ⟨S_, .i32⟩
  | .hbm, ⟨89, _⟩ => ⟨S1024, .i32⟩
  | .hbm, ⟨90, _⟩ => ⟨S1024, .i1⟩
  | .hbm, ⟨91, _⟩ => ⟨S_, .i32⟩
  | .hbm, ⟨92, _⟩ => ⟨S1024, .i32⟩
  | .hbm, ⟨93, _⟩ => ⟨S1024, .i32⟩
  | .hbm, ⟨94, _⟩ => ⟨S1024, .i32⟩
  | .hbm, ⟨95, _⟩ => ⟨S1024x1, .i32⟩
  | .hbm, ⟨96, _⟩ => ⟨S1024x256, .f32⟩
  | .hbm, ⟨97, _⟩ => ⟨S_, .i32⟩
  | .hbm, ⟨98, _⟩ => ⟨S1024, .i32⟩
  | .hbm, ⟨99, _⟩ => ⟨S1024, .i1⟩
  | .hbm, ⟨100, _⟩ => ⟨S_, .i32⟩
  | .hbm, ⟨101, _⟩ => ⟨S1024, .i32⟩
  | .hbm, ⟨102, _⟩ => ⟨S1024, .i32⟩
  | .hbm, ⟨103, _⟩ => ⟨S1024, .i32⟩
  | .hbm, ⟨104, _⟩ => ⟨S1024x1, .i32⟩
  | .hbm, ⟨105, _⟩ => ⟨S1024x256, .f32⟩
  | .hbm, ⟨106, _⟩ => ⟨S1024x512, .f32⟩
  | .hbm, ⟨107, _⟩ => ⟨S1024x512, .f32⟩
  | .hbm, ⟨108, _⟩ => ⟨S1x512, .f32⟩
  | .hbm, ⟨109, _⟩ => ⟨S1024x512, .f32⟩
  | .hbm, ⟨110, _⟩ => ⟨S1024x512, .f32⟩
  | .hbm, ⟨111, _⟩ => ⟨S1024x512, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_c_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_9 : Ref sig .tc := ⟨.hbm, 60, rfl⟩
abbrev main_v39 : Ref sig .tc := ⟨.hbm, 61, rfl⟩
abbrev main_v40 : Ref sig .tc := ⟨.hbm, 62, rfl⟩
abbrev main_cst_10 : Ref sig .tc := ⟨.hbm, 63, rfl⟩
abbrev main_v41 : Ref sig .tc := ⟨.hbm, 64, rfl⟩
abbrev main_v42 : Ref sig .tc := ⟨.hbm, 65, rfl⟩
abbrev main_cst_11 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_12 : Ref sig .tc := ⟨.hbm, 71, rfl⟩
abbrev main_v47 : Ref sig .tc := ⟨.hbm, 72, rfl⟩
abbrev main_v48 : Ref sig .tc := ⟨.hbm, 73, rfl⟩
abbrev main_c_13 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_call0_cst : Ref sig .tc := ⟨.hbm, 85, rfl⟩
abbrev main_call0_v0 : Ref sig .tc := ⟨.hbm, 86, rfl⟩
abbrev main_v59 : Ref sig .tc := ⟨.hbm, 87, rfl⟩
abbrev main_c_14 : Ref sig .tc := ⟨.hbm, 88, rfl⟩
abbrev main_v60 : Ref sig .tc := ⟨.hbm, 89, rfl⟩
abbrev main_v61 : Ref sig .tc := ⟨.hbm, 90, rfl⟩
abbrev main_c_15 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_c_16 : Ref sig .tc := ⟨.hbm, 97, rfl⟩
abbrev main_v67 : Ref sig .tc := ⟨.hbm, 98, rfl⟩
abbrev main_v68 : Ref sig .tc := ⟨.hbm, 99, rfl⟩
abbrev main_c_17 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩

abbrev nD : Nat := 1
abbrev τ : Topo := Topo.v7x

variable {F : FTy → Type} [FloatOps F]
-- ==== Proof.Run.lean ====
/- The kernel's run: every weakly fair execution ends with each argument array unchanged and the result array at what the last of the
   three launches leaves. The reference's run beside it: the composed term of its operations, its arguments unchanged, no counter. -/
module

public import proofs.«01_k».proof.Proof.Gen.KernelIdeal.Frame
public import proofs.«01_k».proof.Proof.Gen.ReferenceIdeal.Run
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ) (ρ : Dev nD → PrngReg)

local notation "𝕄" => MT nD τ sig Unit (Elt F) ℕ (UR sig nD τ) ℕ

set_option backward.isDefEq.respectTransparency.types false in
/-- Every weakly fair execution of the kernel ends with the result array at the third launch's output and the ten argument
    arrays as launched. -/
theorem run_result : θ_run defs (onTc (τ := τ) (main (F := F))) ⟨m, fun _ => 0, ρ⟩ (fun r => ∀ c : Dev nD,
      r.2.mem ((c.tc : Thread nD τ).loc main_v78) = W6 m ρ c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => fun c =>
      ⟨h c _ (mem_uc main_v78 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)

end Cert.KernelIdeal.Gen

namespace Cert.ReferenceIdeal.Value

open Idealize.ShloMosaic Idealize.SL.Sem

variable {F : FTy → Type} [FloatOps F]

/-- Every weakly fair execution of the reference ends with its argument arrays as launched and every counter at zero: it has
    no counter. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_mono (run m ρ) fun r h => ⟨fun c => (h c).2, funext fun g => nomatch g.2⟩

end Cert.ReferenceIdeal.Value

end
-- ==== Proof.Regions.lean ====
/- What each of the kernel's three launches leaves in its output array, over the arrays it reads. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Regions

open Idealize.ShloMosaic Idealize.ShloMosaic.TcCoe Idealize.SL.Sem
open Cert.KernelIdeal Cert.KernelIdeal.Gen

/-- The node a row of the stacked features is about. -/
def nodeOf (p : Fin 40000) : Fin 10000 := ⟨p.val % 10000, Nat.mod_lt _ (by decide)⟩

/-- The relation a row of the stacked features is about. -/
def relOf (p : Fin 40000) : Fin 4 := ⟨p.val / 10000, by omega⟩

/-- The feature column that column `l` of half `h` is. -/
def colOf (h : Fin 2) (l : Fin 128) : Fin 256 := ⟨h.val * 128 + l.val, by omega⟩

/-- The last layer's weight row that row `k` of its second half is. -/
def lowRow (k : Fin 256) : Fin 512 := ⟨256 + k.val, by omega⟩

/-- The last layer's weight row that row `k` of its first half is. -/
def topRow (k : Fin 256) : Fin 512 := ⟨k.val, by omega⟩

/-- The per-relation features, in two column halves of 128: row `r * 10000 + n` of half `h` is row `n` of `x` times columns
    `h * 128 …` of relation `r`'s matrix. -/
def feat (x : FVec Ideal S10000x256 .f32) (w : FVec Ideal S4x256x256 .f32) : FVec Ideal S2x40000x128 .f32 := fun i =>
  ∑ k : Fin 256, x (ix2 (nodeOf (i 1)) k) * w (ix3 (relOf (i 1)) k (colOf (i 0) (i 2)))

/-- The node embeddings: the root product plus the bias plus the aggregate, at least zero. -/
def node (x : FVec Ideal S10000x256 .f32) (w : FVec Ideal S256x256 .f32) (b : FVec Ideal S1x256 .f32)
    (g : FVec Ideal S10000x256 .f32) : FVec Ideal S10000x256 .f32 := fun i =>
  max (((∑ k : Fin 256, x (ix2 (i 0 : Fin 10000) k) * w (ix2 k (i 1 : Fin 256))) + b (ix2 (0 : Fin 1) (i 1 : Fin 256)))
    + g (ix2 (i 0 : Fin 10000) (i 1 : Fin 256))) 0

/-- The last layer: one half of the weight against the nests, the other against the foods, the bias, the hyperbolic tangent. -/
def fc (p q : FVec Ideal S1024x256 .f32) (w : FVec Ideal S512x512 .f32) (b : FVec Ideal S1x512 .f32) : FVec Ideal S1024x512 .f32 :=
  fun i => Ideal.tanh (((∑ k : Fin 256, p (ix2 (i 0 : Fin 1024) k) * w (ix2 (topRow k) (i 1 : Fin 512)))
    + ∑ k : Fin 256, q (ix2 (i 0 : Fin 1024) k) * w (ix2 (lowRow k) (i 1 : Fin 512)))
    + b (ix2 (0 : Fin 1) (i 1 : Fin 512)))

variable (V : (c : Dev nD) → (b : Ref sig .tc) → Buf (Elt Ideal) ((c : Thread nD τ).loc b))

/-- The first launch's index maps in closed form: its points run over the halves, the relations and the blocks of 2000 rows. -/
theorem idx0 : ∀ t : Fin cfg0.N, win0_0.index t = ![t.val % 5, 0] ∧ win0_1.index t = ![t.val / 5 % 4, 0, t.val / 20]
    ∧ win0_2.index t = ![t.val / 20, t.val % 20, 0] ∧ t.val / 20 < 2 :=
  (by decide +kernel : ∀ t : Fin grid0.N, _)

/-- What a point of the first launch stores is the features at the place its block has. -/
theorem point0 (c : Dev nD) (t : Fin cfg0.N) (y : S1x2000x128.Idx) : k0_pay1 (F := Ideal) (iblk0 V c 0 t) (iblk0 V c 1 t) y
    = feat (V c main_arg0) (V c main_arg5) (((cfg0.win 2).blk t).view.emb y) := by
  pointwise [k0_pay1, feat]
  blk_point [iblk0, nodeOf, relOf, colOf, idx0 t]

/-- The first launch leaves the features. -/
theorem final0 (c : Dev nD) : (dat0 V c).arrAt 2 cfg0.N = feat (V c main_arg0) (V c main_arg5) := by
  refine (dat0 V c).arrAt_eq_of_covers 2 _ (by decide +kernel) fun t _ y => ?_
  blk_simp
  rw [after0_2]; frame_out
  exact point0 V c t y

/-- The second launch's index maps: five blocks of 2000 rows. -/
theorem idx1 : ∀ t : Fin cfg1.N, win1_0.index t = ![t.val, 0] ∧ win1_1.index t = ![0, 0] ∧ win1_2.index t = ![0, 0]
    ∧ win1_3.index t = ![t.val, 0] ∧ win1_4.index t = ![t.val, 0] :=
  (by decide +kernel : ∀ t : Fin grid1.N, _)

/-- What a point of the second launch stores is the embeddings at the place its block has. -/
theorem point1 (c : Dev nD) (t : Fin cfg1.N) (y : S2000x256.Idx) :
    k1_pay1 (F := Ideal) (iblk1 V c 0 t) (iblk1 V c 1 t) (iblk1 V c 2 t) (iblk1 V c 3 t) y
    = node (V c main_arg0) (V c main_arg6) (V c main_v61) (V c main_v60) (((cfg1.win 4).blk t).view.emb y) := by
  pointwise [k1_pay1, node]
  blk_point [iblk1, idx1 t]

/-- The second launch leaves the embeddings. -/
theorem final1 (c : Dev nD) :
    (dat1 V c).arrAt 4 cfg1.N = node (V c main_arg0) (V c main_arg6) (V c main_v61) (V c main_v60) := by
  refine (dat1 V c).arrAt_eq_of_covers 4 _ (by decide +kernel) fun t _ y => ?_
  blk_simp
  rw [after1_4]; frame_out
  exact point1 V c t y

/-- The third launch has one point, and each of its blocks is a whole array. -/
theorem idx2 : ∀ t : Fin cfg2.N, win2_0.index t = ![0, 0] ∧ win2_1.index t = ![0, 0] ∧ win2_2.index t = ![0, 0]
    ∧ win2_3.index t = ![0, 0] ∧ win2_4.index t = ![0, 0] :=
  (by decide +kernel : ∀ t : Fin grid2.N, _)

/-- The third launch leaves the last layer. -/
theorem final2 (c : Dev nD) :
    (dat2 V c).arrAt 4 cfg2.N = fc (V c main_v69) (V c main_v76) (V c main_arg8) (V c main_v77) := by
  refine (dat2 V c).arrAt_eq_of_covers 4 _ (by decide +kernel) fun t _ y => ?_
  blk_simp
  rw [after2_4]; frame_out
  pointwise [k2_pay1, fc]
  blk_point [iblk2, topRow, lowRow, idx2 t]

end Cert.KernelIdeal.Regions

end
-- ==== Proof.Terms.lean ====
/- The kernel's host operations between its launches, as functions of the arrays they read, and the kernel's result over its
   argument arrays. -/
module

public import proofs.«01_k».proof.Proof.Regions
public import Idealize.ShloMosaic.Lib.Claim
public import Idealize.ShloMosaic.PureOps.Ideal

@[expose] public section

set_option maxRecDepth 16384

noncomputable section

namespace Cert.KernelIdeal.Terms

open Idealize.ShloMosaic Idealize.ShloMosaic.TcCoe Idealize.SL.Sem
open Cert.KernelIdeal Cert.KernelIdeal.Gen Cert.KernelIdeal.Regions

/-- The edges' source nodes. -/
def src (e : IVec S2x160000 32) : IVec S160000 32 :=
  shapeCast S160000 (extractStridedSlice S1x160000 ![0, 0] e slices_S2x160000_S1x160000_0_0) shapeCasts_S1x160000_S160000

/-- The edges' destination nodes. -/
def dst (e : IVec S2x160000 32) : IVec S160000 32 :=
  shapeCast S160000 (extractStridedSlice S1x160000 ![1, 0] e slices_S2x160000_S1x160000_1_0) shapeCasts_S1x160000_S160000

/-- One word for every edge. -/
def fill (n : BitVec 32) : IVec S160000 32 := broadcastInDim S160000 ![] bcast_S_S160000 (constantI S_ 32 n)

/-- The row of a relation's node in the stack of four relations' rows. -/
def seg (t s : IVec S160000 32) : IVec S160000 32 := addi (muli t (fill 10000#32)) s

/-- A column of start indices into `n` rows, a negative one counted from the end. -/
def idx (n : BitVec 32) (v : IVec S160000 32) : IVec S160000x1 32 :=
  broadcastInDim S160000x1 ![0] bcast_S160000_S160000x1_0 (select (cmpi .slt v (fill 0#32)) (addi v (fill n)) v)

/-- The same for the queries' nodes. -/
def idxQ (v : IVec S1024 32) : IVec S1024x1 32 :=
  broadcastInDim S1024x1 ![0] bcast_S1024_S1024x1_0 (select (cmpi .slt v (broadcastInDim S1024 ![] bcast_S_S1024 (constantI S_ 32 0#32)))
    (addi v (broadcastInDim S1024 ![] bcast_S_S1024 (constantI S_ 32 10000#32))) v)

/-- The number of edges into each relation's node. -/
def count (d : IVec S160000 32) : FVec Ideal S40000 .f32 :=
  Host.scatterAdd scatter_S40000_S160000x1_S160000_n_0_0_1
    (broadcastInDim S40000 ![] bcast_S_S40000 (constant S_ FTy.f32 0x00000000#32)) (idx 40000#32 d)
    (broadcastInDim S160000 ![] bcast_S_S160000 (constant S_ FTy.f32 0x3F800000#32))

/-- The reciprocals of the counts, a count of zero taken as one. -/
def inv (d : IVec S160000 32) : FVec Ideal S40000 .f32 :=
  Host.divf (broadcastInDim S40000 ![] bcast_S_S40000 (constant S_ FTy.f32 0x3F800000#32))
    (maximumf (count d) (broadcastInDim S40000 ![] bcast_S_S40000 (constant S_ FTy.f32 0x3F800000#32)))

/-- The first column half of the stacked features. -/
def half0 (v : FVec Ideal S2x40000x128 .f32) : FVec Ideal S40000x128 .f32 :=
  shapeCast S40000x128 (extractStridedSlice S1x40000x128 ![0, 0, 0] v slices_S2x40000x128_S1x40000x128_0_0_0)
    shapeCasts_S1x40000x128_S40000x128

/-- The second column half of the stacked features. -/
def half1 (v : FVec Ideal S2x40000x128 .f32) : FVec Ideal S40000x128 .f32 :=
  shapeCast S40000x128 (extractStridedSlice S1x40000x128 ![1, 0, 0] v slices_S2x40000x128_S1x40000x128_1_0_0)
    shapeCasts_S1x40000x128_S40000x128

/-- Each edge's scale, over its row of messages. -/
def scale (d : IVec S160000 32) : FVec Ideal S160000x256 .f32 :=
  broadcastInDim S160000x256 ![0, 1] bcast_S160000x1_S160000x256_0_1
    (broadcastInDim S160000x1 ![0] bcast_S160000_S160000x1_0
      (Host.gather gather_S40000_S160000x1_S160000_n_0_n_n_0_1_1 (inv d) (idx 40000#32 d)))

/-- Each edge's row of features, its two column halves side by side. -/
def rows (v : FVec Ideal S2x40000x128 .f32) (s : IVec S160000 32) : FVec Ideal S160000x256 .f32 :=
  concatenate S160000x256 1
    [⟨S160000x128, Host.gather gather_S40000x128_S160000x1_S160000x128_1_0_n_n_0_1_1128 (half0 v) (idx 40000#32 s)⟩,
     ⟨S160000x128, Host.gather gather_S40000x128_S160000x1_S160000x128_1_0_n_n_0_1_1128 (half1 v) (idx 40000#32 s)⟩]
    concatenates_S160000x128_S160000x128_S160000x256_d1

/-- The scaled messages summed at their destinations. -/
def agg (v : FVec Ideal S2x40000x128 .f32) (s d t : IVec S160000 32) : FVec Ideal S10000x256 .f32 :=
  Host.scatterAdd scatter_S10000x256_S160000x1_S160000x256_1_0_0_1
    (broadcastInDim S10000x256 ![] bcast_S_S10000x256 (constant S_ FTy.f32 0x00000000#32)) (idx 10000#32 t)
    (mulf (rows v s) (scale d))

/-- The queries' rows of the embeddings. -/
def take (v : FVec Ideal S10000x256 .f32) (q : IVec S1024 32) : FVec Ideal S1024x256 .f32 :=
  Host.gather gather_S10000x256_S1024x1_S1024x256_1_0_n_n_0_1_1256 v (idxQ q)

/-- The kernel's node embeddings over its argument arrays. -/
def nodes (x : FVec Ideal S10000x256 .f32) (e : IVec S2x160000 32) (t : IVec S160000 32) (w : FVec Ideal S4x256x256 .f32)
    (r : FVec Ideal S256x256 .f32) (b : FVec Ideal S256 .f32) : FVec Ideal S10000x256 .f32 :=
  node x r (shapeCast S1x256 b shapeCasts_S256_S1x256) (agg (feat x w) (seg t (src e)) (seg t (dst e)) (dst e))

/-- The kernel's result over its argument arrays. -/
def result (x : FVec Ideal S10000x256 .f32) (e : IVec S2x160000 32) (t : IVec S160000 32) (p q : IVec S1024 32)
    (w : FVec Ideal S4x256x256 .f32) (r : FVec Ideal S256x256 .f32) (b : FVec Ideal S256 .f32) (f : FVec Ideal S512x512 .f32)
    (g : FVec Ideal S512 .f32) : FVec Ideal S1024x512 .f32 :=
  fc (take (nodes x e t w r b) p) (take (nodes x e t w r b) q) f (shapeCast S1x512 g shapeCasts_S512_S1x512)

section Stretches

variable (W : Valuation τ sig (Elt Ideal))

/-- The operations before the first launch leave the sources' rows in the stack. -/
theorem host0_v6 : StableHlo.after hostOps0 W (Proc.devRef .tc main_v6)
    = seg (W (Proc.devRef .tc main_arg2)) (src (W (Proc.devRef .tc main_arg1))) := by
  after_results; rfl
/-- They leave the destinations' rows in the stack. -/
theorem host0_v9 : StableHlo.after hostOps0 W (Proc.devRef .tc main_v9)
    = seg (W (Proc.devRef .tc main_arg2)) (dst (W (Proc.devRef .tc main_arg1))) := by
  after_results; rfl
/-- They leave the destinations. -/
theorem host0_v3 : StableHlo.after hostOps0 W (Proc.devRef .tc main_v3) = dst (W (Proc.devRef .tc main_arg1)) := by
  after_results; rfl
/-- The operations before the second launch leave the bias as a row. -/
theorem host1_v61 : StableHlo.after hostOps1 W (Proc.devRef .tc main_v61)
    = shapeCast S1x256 (W (Proc.devRef .tc main_arg7) : FVec Ideal S256 .f32) shapeCasts_S256_S1x256 := by
  after_results; rfl
/-- They leave the aggregate of the first launch's features. -/
theorem host1_v60 : StableHlo.after hostOps1 W (Proc.devRef .tc main_v60)
    = agg (W (Proc.devRef .tc main_v10)) (W (Proc.devRef .tc main_v6)) (W (Proc.devRef .tc main_v9)) (W (Proc.devRef .tc main_v3)) := by
  after_results; rfl
/-- The operations before the third launch leave the nests' rows of the embeddings. -/
theorem host2_v69 : StableHlo.after hostOps2 W (Proc.devRef .tc main_v69)
    = take (W (Proc.devRef .tc main_v62)) (W (Proc.devRef .tc main_arg3)) := by
  after_results; rfl
/-- They leave the foods' rows of the embeddings. -/
theorem host2_v76 : StableHlo.after hostOps2 W (Proc.devRef .tc main_v76)
    = take (W (Proc.devRef .tc main_v62)) (W (Proc.devRef .tc main_arg4)) := by
  after_results; rfl
/-- They leave the last layer's bias as a row. -/
theorem host2_v77 : StableHlo.after hostOps2 W (Proc.devRef .tc main_v77)
    = shapeCast S1x512 (W (Proc.devRef .tc main_arg9) : FVec Ideal S512 .f32) shapeCasts_S512_S1x512 := by
  after_results; rfl

end Stretches

section Whole

variable (m : (ℓ : Loc nD τ sig) → Buf (Elt Ideal) ℓ) (ρ : Dev nD → PrngReg) (c : Dev nD)

/-- The first launch's output array, the features of the arguments. -/
theorem W2_v10 : W2 m ρ c (Proc.devRef .tc main_v10)
    = feat (m ((c : Thread nD τ).loc main_arg0)) (m ((c : Thread nD τ).loc main_arg5)) := by
  refine (W2_arr m ρ c 2).trans ((final0 (V1 m ρ) c).trans ?_)
  exact congrArg₂ feat (W1_args m ρ c main_arg0 (by decide)) (W1_args m ρ c main_arg5 (by decide))

/-- After the first launch the sources' rows are those of the arguments. -/
theorem W2_v6 : W2 m ρ c (Proc.devRef .tc main_v6)
    = seg (m ((c : Thread nD τ).loc main_arg2)) (src (m ((c : Thread nD τ).loc main_arg1))) :=
  (W2_of_ne m ρ c main_v6 (by decide)).trans (host0_v6 (W0 m ρ c))

/-- After the first launch the destinations' rows are those of the arguments. -/
theorem W2_v9 : W2 m ρ c (Proc.devRef .tc main_v9)
    = seg (m ((c : Thread nD τ).loc main_arg2)) (dst (m ((c : Thread nD τ).loc main_arg1))) :=
  (W2_of_ne m ρ c main_v9 (by decide)).trans (host0_v9 (W0 m ρ c))

/-- After the first launch the destinations are those of the arguments. -/
theorem W2_v3 : W2 m ρ c (Proc.devRef .tc main_v3) = dst (m ((c : Thread nD τ).loc main_arg1)) :=
  (W2_of_ne m ρ c main_v3 (by decide)).trans (host0_v3 (W0 m ρ c))

/-- The second launch's output array, the node embeddings. -/
theorem W4_v62 : W4 m ρ c (Proc.devRef .tc main_v62)
    = nodes (m ((c : Thread nD τ).loc main_arg0)) (m ((c : Thread nD τ).loc main_arg1)) (m ((c : Thread nD τ).loc main_arg2))
        (m ((c : Thread nD τ).loc main_arg5)) (m ((c : Thread nD τ).loc main_arg6)) (m ((c : Thread nD τ).loc main_arg7)) := by
  refine (W4_arr m ρ c 4).trans ((final1 (V3 m ρ) c).trans ?_)
  have e0 : V3 m ρ c main_arg0 = m ((c : Thread nD τ).loc main_arg0) := W3_args m ρ c main_arg0 (by decide)
  have e6 : V3 m ρ c main_arg6 = m ((c : Thread nD τ).loc main_arg6) := W3_args m ρ c main_arg6 (by decide)
  have e61 : V3 m ρ c main_v61 = shapeCast S1x256 (m ((c : Thread nD τ).loc main_arg7) : FVec Ideal S256 .f32) shapeCasts_S256_S1x256 :=
    (host1_v61 (W2 m ρ c)).trans (congrArg (fun v : FVec Ideal S256 .f32 => shapeCast S1x256 v shapeCasts_S256_S1x256)
      (W2_args m ρ c main_arg7 (by decide)))
  have e60 : V3 m ρ c main_v60 = agg (feat (m ((c : Thread nD τ).loc main_arg0)) (m ((c : Thread nD τ).loc main_arg5)))
      (seg (m ((c : Thread nD τ).loc main_arg2)) (src (m ((c : Thread nD τ).loc main_arg1))))
      (seg (m ((c : Thread nD τ).loc main_arg2)) (dst (m ((c : Thread nD τ).loc main_arg1))))
      (dst (m ((c : Thread nD τ).loc main_arg1))) := by
    refine (host1_v60 (W2 m ρ c)).trans ?_
    rw [W2_v10, W2_v6, W2_v9, W2_v3]
  rw [e0, e6, e61, e60]; rfl

/-- The kernel's result array after its run, over its argument arrays. -/
theorem W6_v78 : W6 m ρ c (Proc.devRef .tc main_v78)
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) := by
  refine (W6_arr m ρ c 4).trans ((final2 (V5 m ρ) c).trans ?_)
  have e69 : V5 m ρ c main_v69 = take (W4 m ρ c (Proc.devRef .tc main_v62)) (m ((c : Thread nD τ).loc main_arg3)) :=
    (host2_v69 (W4 m ρ c)).trans (congrArg (take _) (W4_args m ρ c main_arg3 (by decide)))
  have e76 : V5 m ρ c main_v76 = take (W4 m ρ c (Proc.devRef .tc main_v62)) (m ((c : Thread nD τ).loc main_arg4)) :=
    (host2_v76 (W4 m ρ c)).trans (congrArg (take _) (W4_args m ρ c main_arg4 (by decide)))
  have e8 : V5 m ρ c main_arg8 = m ((c : Thread nD τ).loc main_arg8) := W5_args m ρ c main_arg8 (by decide)
  have e77 : V5 m ρ c main_v77 = shapeCast S1x512 (m ((c : Thread nD τ).loc main_arg9) : FVec Ideal S512 .f32) shapeCasts_S512_S1x512 :=
    (host2_v77 (W4 m ρ c)).trans (congrArg (fun v : FVec Ideal S512 .f32 => shapeCast S1x512 v shapeCasts_S512_S1x512)
      (W4_args m ρ c main_arg9 (by decide)))
  rw [e69, e76, e8, e77, W4_v62]; rfl

end Whole

end Cert.KernelIdeal.Terms

end
-- ==== Proof.RefTerms.lean ====
/- The reference's result as a composition of named stages. -/
module

public import proofs.«01_k».proof.Proof.Gen.ReferenceIdeal.Run
public import Idealize.ShloMosaic.PureOps.Ideal

@[expose] public section

set_option maxRecDepth 16384

noncomputable section

namespace Cert.ReferenceIdeal.Terms

open Idealize.ShloMosaic Idealize.ShloMosaic.TcCoe Idealize.SL.Sem
open Cert.ReferenceIdeal Cert.ReferenceIdeal.Gen

/-- The edges' source nodes. -/
def src (e : IVec S2x160000 32) : IVec S160000 32 :=
  shapeCast S160000 (extractStridedSlice S1x160000 ![0, 0] e slices_S2x160000_S1x160000_0_0) shapeCasts_S1x160000_S160000

/-- The edges' destination nodes. -/
def dst (e : IVec S2x160000 32) : IVec S160000 32 :=
  shapeCast S160000 (extractStridedSlice S1x160000 ![1, 0] e slices_S2x160000_S1x160000_1_0) shapeCasts_S1x160000_S160000

/-- One word for every edge. -/
def fill (n : BitVec 32) : IVec S160000 32 := broadcastInDim S160000 ![] bcast_S_S160000 (constantI S_ 32 n)

/-- The number of a relation's node among all the relations' nodes. -/
def seg (t s : IVec S160000 32) : IVec S160000 32 := addi (muli t (fill 10000#32)) s

/-- A column of start indices into `n` rows, a negative one counted from the end. -/
def idx (n : BitVec 32) (v : IVec S160000 32) : IVec S160000x1 32 :=
  broadcastInDim S160000x1 ![0] bcast_S160000_S160000x1_0 (select (cmpi .slt v (fill 0#32)) (addi v (fill n)) v)

/-- The same for the queries' nodes. -/
def idxQ (v : IVec S1024 32) : IVec S1024x1 32 :=
  broadcastInDim S1024x1 ![0] bcast_S1024_S1024x1_0 (select (cmpi .slt v (broadcastInDim S1024 ![] bcast_S_S1024 (constantI S_ 32 0#32)))
    (addi v (broadcastInDim S1024 ![] bcast_S_S1024 (constantI S_ 32 10000#32))) v)

/-- The number of edges into each relation's node. -/
def count (d : IVec S160000 32) : FVec Ideal S40000 .f32 :=
  Host.scatterAdd scatter_S40000_S160000x1_S160000_n_0_0_1
    (broadcastInDim S40000 ![] bcast_S_S40000 (constant S_ FTy.f32 0x00000000#32)) (idx 40000#32 d)
    (broadcastInDim S160000 ![] bcast_S_S160000 (constant S_ FTy.f32 0x3F800000#32))

/-- Each edge's scale: the reciprocal of its count, a count of zero taken as one, over its row of messages. -/
def scale (d : IVec S160000 32) : FVec Ideal S160000x256 .f32 :=
  broadcastInDim S160000x256 ![0, 1] bcast_S160000x1_S160000x256_0_1
    (broadcastInDim S160000x1 ![0] bcast_S160000_S160000x1_0
      (Host.divf (broadcastInDim S160000 ![] bcast_S_S160000 (constant S_ FTy.f32 0x3F800000#32))
        (maximumf (Host.gather gather_S40000_S160000x1_S160000_n_0_n_n_0_1_1 (count d) (idx 40000#32 d))
          (broadcastInDim S160000 ![] bcast_S_S160000 (constant S_ FTy.f32 0x3F800000#32)))))

/-- Every relation's features of every node. -/
def feats (x : FVec Ideal S10000x256 .f32) (w : FVec Ideal S4x256x256 .f32) : FVec Ideal S4x10000x256 .f32 :=
  transpose S4x10000x256 [0, 2, 1]
    (Host.dotGeneral dot_S4x256x256_S10000x256_S4x256x10000_1_1_02_0_n_n none w x) transposes_S4x256x10000_S4x10000x256_0_2_1

/-- Each edge's row of features, picked by its relation and its source. -/
def rows (v : FVec Ideal S4x10000x256 .f32) (t s : IVec S160000 32) : FVec Ideal S160000x256 .f32 :=
  Host.gather gather_S4x10000x256_S160000x2_S160000x256_1_01_n_n_01_1_11256 v
    (concatenate S160000x2 1 [⟨S160000x1, idx 4#32 t⟩, ⟨S160000x1, idx 10000#32 s⟩] concatenates_S160000x1_S160000x1_S160000x2_d1)

/-- The scaled messages summed at their destinations. -/
def agg (v : FVec Ideal S4x10000x256 .f32) (t s d : IVec S160000 32) : FVec Ideal S10000x256 .f32 :=
  Host.scatterAdd scatter_S10000x256_S160000x1_S160000x256_1_0_0_1
    (broadcastInDim S10000x256 ![] bcast_S_S10000x256 (constant S_ FTy.f32 0x00000000#32)) (idx 10000#32 d)
    (mulf (rows v t s) (scale (seg t d)))

/-- The node embeddings from the aggregate. -/
def node (x : FVec Ideal S10000x256 .f32) (r : FVec Ideal S256x256 .f32) (b : FVec Ideal S256 .f32) (a : FVec Ideal S10000x256 .f32) :
    FVec Ideal S10000x256 .f32 :=
  maximumf (addf (addf a (Host.dotGeneral dot_S10000x256_S256x256_S10000x256_1_0_0_1_n_n none x r))
      (broadcastInDim S10000x256 ![0, 1] bcast_S1x256_S10000x256_0_1 (broadcastInDim S1x256 ![1] bcast_S256_S1x256_1 b)))
    (broadcastInDim S10000x256 ![] bcast_S_S10000x256 (constant S_ FTy.f32 0x00000000#32))

/-- The queries' rows of the embeddings. -/
def take (v : FVec Ideal S10000x256 .f32) (q : IVec S1024 32) : FVec Ideal S1024x256 .f32 :=
  Host.gather gather_S10000x256_S1024x1_S1024x256_1_0_n_n_0_1_1256 v (idxQ q)

/-- The last layer over the two rows side by side. -/
def fc (p q : FVec Ideal S1024x256 .f32) (f : FVec Ideal S512x512 .f32) (g : FVec Ideal S512 .f32) : FVec Ideal S1024x512 .f32 :=
  Host.tanh (addf (Host.dotGeneral dot_S1024x512_S512x512_S1024x512_1_0_0_1_n_n none
      (concatenate S1024x512 1 [⟨S1024x256, p⟩, ⟨S1024x256, q⟩] concatenates_S1024x256_S1024x256_S1024x512_d1) f)
    (broadcastInDim S1024x512 ![0, 1] bcast_S1x512_S1024x512_0_1 (broadcastInDim S1x512 ![1] bcast_S512_S1x512_1 g)))

/-- The reference's node embeddings over its argument arrays. -/
def nodes (x : FVec Ideal S10000x256 .f32) (e : IVec S2x160000 32) (t : IVec S160000 32) (w : FVec Ideal S4x256x256 .f32)
    (r : FVec Ideal S256x256 .f32) (b : FVec Ideal S256 .f32) : FVec Ideal S10000x256 .f32 :=
  node x r b (agg (feats x w) t (src e) (dst e))

/-- The reference's result over its argument arrays. -/
def result (x : FVec Ideal S10000x256 .f32) (e : IVec S2x160000 32) (t : IVec S160000 32) (p q : IVec S1024 32)
    (w : FVec Ideal S4x256x256 .f32) (r : FVec Ideal S256x256 .f32) (b : FVec Ideal S256 .f32) (f : FVec Ideal S512x512 .f32)
    (g : FVec Ideal S512 .f32) : FVec Ideal S1024x512 .f32 :=
  fc (take (nodes x e t w r b) p) (take (nodes x e t w r b) q) f g

/-- The reference's run ends with its result array at `result` of its arguments. -/
theorem res_eq (m : (ℓ : Loc nD τ sig) → Buf (Elt Ideal) ℓ) (c : Dev nD) : Value.res_main_v79 m c
    = result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) := by
  unfold Value.res_main_v79; rfl

end Cert.ReferenceIdeal.Terms

end
-- ==== Proof.Equation.lean ====
/- The kernel's result is the reference's, for edge types below 4 and source nodes below 10000. -/
module

public import proofs.«01_k».proof.Proof.Terms
public import proofs.«01_k».proof.Proof.RefTerms
public import Idealize.ShloMosaic.Lib.Pointwise
public import proofs.«01_k».proof.Proof.Gen.Pre_in_range
public import Idealize.ShloMosaic.Lib.ReduceAll
public import Idealize.ShloMosaic.Lib.Routing.Ops

@[expose] public section

set_option maxRecDepth 16384

noncomputable section

namespace Cert.Equation

open Idealize.ShloMosaic Idealize.ShloMosaic.TcCoe Idealize.SL.Sem
open Cert.KernelIdeal

/-! ## The index words -/

/-- A start index that is a small count is not taken from the end. -/
theorem idx_apply (n : BitVec 32) (v : IVec S160000 32) (e : Fin 160000) (h : (v (ix1 e)).toNat < 2 ^ 31) :
    Terms.idx n v (ix2 e (0 : Fin 1)) = v (ix1 e) := by
  have h0 : IntOp.cmpi .slt (v (ix1 e)) 0#32 ≠ 1 := fun hc => by
    have := (StableHlo.Predicate.slt_iff_toNat h (by decide)).1 hc
    simp at this
  pointwise [Terms.idx, Terms.fill]
  exact if_neg h0

/-- A relation's node's row, as a number. -/
theorem seg_toNat (t s : IVec S160000 32) (e : Fin 160000) (ht : (t (ix1 e)).toNat < 4) (hs : (s (ix1 e)).toNat < 10000) :
    (Terms.seg t s (ix1 e)).toNat = (t (ix1 e)).toNat * 10000 + (s (ix1 e)).toNat := by
  pointwise [Terms.seg, Terms.fill]
  show (t (ix1 e) * 10000#32 + s (ix1 e)).toNat = _
  rw [BitVec.toNat_add, BitVec.toNat_mul, show (10000#32 : BitVec 32).toNat = 10000 from rfl]
  omega

/-! ## The edges' rows of features -/

/-- The reference's pick: where the two index columns hold a relation and a node, row `e` of the result is that node's row of that
    relation. -/
theorem pick (v : FVec Ideal ReferenceIdeal.S4x10000x256 .f32) (i : IVec ReferenceIdeal.S160000x2 32) (e : Fin 160000) (y : Fin 256)
    (r : Fin 4) (n : Fin 10000) (hr : i (ix2 e (0 : Fin 2)) = BitVec.ofNat 32 r.val) (hn : i (ix2 e (1 : Fin 2)) = BitVec.ofNat 32 n.val) :
    Host.gather ReferenceIdeal.gather_S4x10000x256_S160000x2_S160000x256_1_01_n_n_01_1_11256 v i (ix2 e y) = v (ix3 r n y) := by
  have si0 : ReferenceIdeal.gather_S4x10000x256_S160000x2_S160000x256_1_01_n_n_01_1_11256.siIdx (ix2 e y) ⟨0, by decide⟩
      = ix2 e (0 : Fin 2) := by
    funext a; match a with | ⟨0, _⟩ => rfl | ⟨1, _⟩ => rfl
  have si1 : ReferenceIdeal.gather_S4x10000x256_S160000x2_S160000x256_1_01_n_n_01_1_11256.siIdx (ix2 e y) ⟨1, by decide⟩
      = ix2 e (1 : Fin 2) := by
    funext a; match a with | ⟨0, _⟩ => rfl | ⟨1, _⟩ => rfl
  unfold Host.gather
  refine congrArg v (funext fun a => Fin.ext ?_)
  match a with
  | ⟨0, _⟩ =>
    show min (i (ReferenceIdeal.gather_S4x10000x256_S160000x2_S160000x256_1_01_n_n_01_1_11256.siIdx (ix2 e y) ⟨0, by decide⟩)).toInt.toNat (4 - 1)
      + 0 + 0 = r.val
    rw [si0, hr, StableHlo.Predicate.toInt_ofNat_small _ (by omega)]
    omega
  | ⟨1, _⟩ =>
    show min (i (ReferenceIdeal.gather_S4x10000x256_S160000x2_S160000x256_1_01_n_n_01_1_11256.siIdx (ix2 e y) ⟨1, by decide⟩)).toInt.toNat (10000 - 1)
      + 0 + 0 = n.val
    rw [si1, hn, StableHlo.Predicate.toInt_ofNat_small _ (by omega)]
    omega
  | ⟨2, _⟩ =>
    show 0 + 0 + y.val = y.val
    omega

/-- One half of the kernel's pick: where the index column holds a row, row `e` of the result is that row. -/
theorem pickHalf (v : FVec Ideal S40000x128 .f32) (i : IVec S160000x1 32) (e : Fin 160000) (y : Fin 128)
    (p : Fin 40000) (hp : i (ix2 e (0 : Fin 1)) = BitVec.ofNat 32 p.val) :
    Host.gather gather_S40000x128_S160000x1_S160000x128_1_0_n_n_0_1_1128 v i (ix2 e y) = v (ix2 p y) :=
  Routing.gather_row (nb := 40000) (B := 128) (n := 160000) gather_S40000x128_S160000x1_S160000x128_1_0_n_n_0_1_1128 rfl rfl rfl rfl rfl
    v i e y p hp (by decide)

/-- Row `p` of the first half of the features. -/
theorem half0_apply (v : FVec Ideal S2x40000x128 .f32) (p : Fin 40000) (l : Fin 128) :
    Terms.half0 v (ix2 p l) = v (ix3 (0 : Fin 2) p l) := by
  pointwise [Terms.half0]

/-- Row `p` of the second half of the features. -/
theorem half1_apply (v : FVec Ideal S2x40000x128 .f32) (p : Fin 40000) (l : Fin 128) :
    Terms.half1 v (ix2 p l) = v (ix3 (1 : Fin 2) p l) := by
  pointwise [Terms.half1]

/-- The kernel's features of row `p`: its node times its relation's matrix. -/
theorem feat_apply (x : FVec Ideal S10000x256 .f32) (w : FVec Ideal S4x256x256 .f32) (h : Fin 2) (p : Fin 40000) (l : Fin 128) :
    Regions.feat x w (ix3 h p l) = ∑ k : Fin 256, x (ix2 (Regions.nodeOf p) k) * w (ix3 (Regions.relOf p) k (Regions.colOf h l)) :=
  rfl

/-- A row of the reference's features. -/
theorem feats_apply (x : FVec Ideal S10000x256 .f32) (w : FVec Ideal S4x256x256 .f32) (r : Fin 4) (n : Fin 10000) (y : Fin 256) :
    ReferenceIdeal.Terms.feats x w (ix3 r n y) = ∑ k : Fin 256, x (ix2 n k) * w (ix3 r k y) := by
  pointwise! [ReferenceIdeal.Terms.feats]

/-- The kernel's rows of features are the reference's where the relations and the sources are in range. -/
theorem rows_eq (x : FVec Ideal S10000x256 .f32) (w : FVec Ideal S4x256x256 .f32) (t s : IVec S160000 32)
    (ht : ∀ e : Fin 160000, (t (ix1 e)).toNat < 4) (hs : ∀ e : Fin 160000, (s (ix1 e)).toNat < 10000) :
    Terms.rows (Regions.feat x w) (Terms.seg t s) = ReferenceIdeal.Terms.rows (ReferenceIdeal.Terms.feats x w) t s := by
  funext j
  rw [eq_ix2 (n0 := 160000) (n1 := 256) j]
  obtain ⟨e, he⟩ : ∃ e : Fin 160000, e = j 0 := ⟨_, rfl⟩
  obtain ⟨y, hy⟩ : ∃ y : Fin 256, y = j 1 := ⟨_, rfl⟩
  rw [← he, ← hy]
  have hv := seg_toNat t s e (ht e) (hs e)
  have h4 := ht e
  have h5 := hs e
  obtain ⟨p, hp⟩ : ∃ p : Fin 40000, p.val = (t (ix1 e)).toNat * 10000 + (s (ix1 e)).toNat := ⟨⟨_, by omega⟩, rfl⟩
  have hk : Terms.idx 40000#32 (Terms.seg t s) (ix2 e (0 : Fin 1)) = BitVec.ofNat 32 p.val := by
    rw [idx_apply _ _ _ (by omega), hp, ← hv, BitVec.ofNat_toNat, BitVec.setWidth_eq]
  have hn : Regions.nodeOf p = ⟨(s (ix1 e)).toNat, h5⟩ := Fin.ext (by
    show p.val % 10000 = (s (ix1 e)).toNat
    omega)
  have hr : Regions.relOf p = ⟨(t (ix1 e)).toNat, h4⟩ := Fin.ext (by
    show p.val / 10000 = (t (ix1 e)).toNat
    omega)
  have hR : ReferenceIdeal.Terms.rows (ReferenceIdeal.Terms.feats x w) t s (ix2 e y)
      = ∑ k : Fin 256, x (ix2 (⟨(s (ix1 e)).toNat, h5⟩ : Fin 10000) k) * w (ix3 (⟨(t (ix1 e)).toNat, h4⟩ : Fin 4) k y) := by
    refine (pick _ _ e y ⟨_, h4⟩ ⟨_, h5⟩ ?_ ?_).trans (feats_apply x w _ _ y)
    · pointwise
      refine (idx_apply _ t e (by omega)).trans ?_
      rw [BitVec.ofNat_toNat, BitVec.setWidth_eq]
    · pointwise
      refine (idx_apply _ s e (by omega)).trans ?_
      rw [BitVec.ofNat_toNat, BitVec.setWidth_eq]
  rw [hR]
  pointwise [Terms.rows]
  split
  · rw [pickHalf _ _ _ _ p hk, half0_apply, feat_apply, hn, hr]
    refine Finset.sum_congr rfl fun k _ => ?_
    have hc : Regions.colOf 0 ⟨y.val, by omega⟩ = y := Fin.ext (by
      show 0 * 128 + y.val = y.val
      omega)
    rw [hc]
  · rw [pickHalf _ _ _ _ p hk, half1_apply, feat_apply, hn, hr]
    refine Finset.sum_congr rfl fun k _ => ?_
    have hc : Regions.colOf 1 ⟨y.val - 128, by omega⟩ = y := Fin.ext (by
      show 1 * 128 + (y.val - 128) = y.val
      omega)
    rw [hc]

/-! ## The scales, the embeddings, the last layer -/

/-- The reciprocal read at an edge's count is the reciprocal of the count read there. -/
theorem scale_eq (d : IVec S160000 32) : Terms.scale d = ReferenceIdeal.Terms.scale d := rfl

/-- The kernel's embeddings of an aggregate are the reference's: the same sums of products, in another order. -/
theorem node_eq (x : FVec Ideal S10000x256 .f32) (r : FVec Ideal S256x256 .f32) (b : FVec Ideal S256 .f32)
    (a : FVec Ideal S10000x256 .f32) :
    Regions.node x r (shapeCast S1x256 b Gen.shapeCasts_S256_S1x256) a = ReferenceIdeal.Terms.node x r b a := by
  funext j
  idx_vars j
  pointwise! [Regions.node, ReferenceIdeal.Terms.node]

/-- The kernel's last layer is the reference's: the product with the two rows side by side is the sum of the products with the
    matrix's two halves. -/
theorem fc_eq (p q : FVec Ideal S1024x256 .f32) (f : FVec Ideal S512x512 .f32) (g : FVec Ideal S512 .f32) :
    Regions.fc p q f (shapeCast S1x512 g Gen.shapeCasts_S512_S1x512) = ReferenceIdeal.Terms.fc p q f g := by
  funext j
  idx_vars j
  pointwise [Regions.fc, Regions.topRow, Regions.lowRow, ReferenceIdeal.Terms.fc]

/-! ## The whole result -/

/-- The kernel's aggregate is the reference's where the relations and the sources are in range. -/
theorem agg_eq (x : FVec Ideal S10000x256 .f32) (w : FVec Ideal S4x256x256 .f32) (t s d : IVec S160000 32)
    (ht : ∀ e : Fin 160000, (t (ix1 e)).toNat < 4) (hs : ∀ e : Fin 160000, (s (ix1 e)).toNat < 10000) :
    Terms.agg (Regions.feat x w) (Terms.seg t s) (Terms.seg t d) d
      = ReferenceIdeal.Terms.agg (ReferenceIdeal.Terms.feats x w) t s d := by
  unfold Terms.agg
  rw [rows_eq x w t s ht hs, scale_eq]
  rfl

/-- The kernel's result is the reference's where the relations and the sources are in range. -/
theorem result_eq (x : FVec Ideal S10000x256 .f32) (e : IVec S2x160000 32) (t : IVec S160000 32) (p q : IVec S1024 32)
    (w : FVec Ideal S4x256x256 .f32) (r : FVec Ideal S256x256 .f32) (b : FVec Ideal S256 .f32) (f : FVec Ideal S512x512 .f32)
    (g : FVec Ideal S512 .f32) (ht : ∀ n : Fin 160000, (t (ix1 n)).toNat < 4)
    (hs : ∀ n : Fin 160000, (Terms.src e (ix1 n)).toNat < 10000) :
    Terms.result x e t p q w r b f g = ReferenceIdeal.Terms.result x e t p q w r b f g := by
  have hn : Terms.nodes x e t w r b = ReferenceIdeal.Terms.nodes x e t w r b := by
    unfold Terms.nodes
    rw [agg_eq x w t _ _ ht hs, node_eq]
    rfl
  unfold Terms.result
  rw [hn, fc_eq]
  rfl

/-! ## What the precondition says -/

/-- A word from zero on and below a small bound, both as signed numbers, is below it as a count. -/
theorem toNat_lt_of_signed (v n : BitVec 32) (hn : n.toNat < 2 ^ 31) (h : IntOp.andi (IntOp.cmpi .sge v 0#32) (IntOp.cmpi .slt v n) = 1#1) :
    v.toNat < n.toNat := by
  obtain ⟨h0, h1⟩ := IntOp.andi_eq_one.1 h
  have hv : v.toNat < 2 ^ 31 := by
    by_contra hc
    have hs : (0#32).sle v = true := by
      revert h0
      simp only [IntOp.cmpi]
      cases (0#32).sle v <;> simp
    rw [BitVec.sle_eq_decide, decide_eq_true_eq, show (0#32 : BitVec 32).toInt = 0 from rfl, BitVec.toInt_eq_toNat_cond] at hs
    have := v.isLt
    split at hs <;> omega
  exact (StableHlo.Predicate.slt_iff_toNat hv hn).1 h1

/-- A scalar has one index. -/
instance : Subsingleton Pre_in_range.S_.Idx := ⟨fun a b => funext fun i => i.elim0⟩

/-- Under the precondition every relation is below 4 and every source below 10000. -/
theorem in_range (x : FVec Ideal S10000x256 .f32) (e : IVec S2x160000 32) (t : IVec S160000 32) (p q : IVec S1024 32)
    (w : FVec Ideal S4x256x256 .f32) (r : FVec Ideal S256x256 .f32) (b : FVec Ideal S256 .f32) (f : FVec Ideal S512x512 .f32)
    (g : FVec Ideal S512 .f32) (h : Pre_in_range.fn (F := Ideal) x e t p q w r b f g = fun _ => 1#1) :
    (∀ n : Fin 160000, (t (ix1 n)).toNat < 4) ∧ (∀ n : Fin 160000, (Terms.src e (ix1 n)).toNat < 10000) := by
  obtain ⟨ha, hb⟩ := IntOp.andi_eq_one.1 (congrFun h (fun a => a.elim0))
  exact ⟨fun n => toNat_lt_of_signed _ 4#32 (by decide) (Host.reduce_andi_all _ _ _ _ _ ha (ix1 n)),
    fun n => toNat_lt_of_signed _ 10000#32 (by decide) (Host.reduce_andi_all _ _ _ _ _ hb (ix1 n))⟩

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_in_range
public import proofs.«01_k».proof.Proof.Gen.ReferenceIdeal.Run
public import proofs.«01_k».proof.Proof.Run
public import proofs.«01_k».proof.Proof.Equation
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The kernel and the reference end with the same result where the relations and the sources are in range. -/
theorem algebraic : Cert.algebraic_KernelIdeal_ReferenceIdeal_pre_in_range := by
  intro m g m' g' hpre hag
  refine ⟨fun c => Cert.KernelIdeal.Gen.W6 m g c (Proc.devRef .tc Cert.KernelIdeal.main_v78), ?_, ?_⟩
  · run_from Cert.KernelIdeal.Gen.run_result m g
  · refine θ_run_mono (Cert.ReferenceIdeal.Value.run m' g') fun r h c => ⟨(h c).1.trans ?_, (h c).2⟩
    obtain ⟨h0, h1, h2, h3, h4, h5, h6, h7, h8, h9⟩ := hag c
    obtain ⟨ht, hs⟩ := Cert.Equation.in_range _ _ _ _ _ _ _ _ _ _ (hpre c)
    rw [Cert.ReferenceIdeal.Terms.res_eq, h0, h1, h2, h3, h4, h5, h6, h7, h8, h9]
    exact ((Cert.KernelIdeal.Terms.W6_v78 m g c).trans (Cert.Equation.result_eq _ _ _ _ _ _ _ _ _ _ ht hs)).symm

/-- Every claim of the certificate. -/
theorem claim : Cert.Claim :=
  ⟨Cert.Kernel.Gen.facts, Cert.KernelIdeal.Gen.facts, Cert.ReferenceIdeal.Gen.facts, Cert.Pre_in_range.Gen.facts,
    fun m ρ _ => Cert.Kernel.Gen.frame m ρ, fun m ρ _ => Cert.KernelIdeal.Gen.frame m ρ, fun m ρ _ => Cert.KernelIdeal.Gen.frame m ρ,
    fun m ρ _ => Cert.ReferenceIdeal.Value.frame m ρ, fun m ρ _ => Cert.ReferenceIdeal.Value.frame m ρ, trivial, algebraic⟩

end Cert.Proof

end
